-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x384x384 : Shape := ⟨3, ![4, 384, 384]⟩
abbrev S256x128 : Shape := ⟨2, ![256, 128]⟩
abbrev S32 : Shape := ⟨1, ![32]⟩
abbrev S128x128 : Shape := ⟨2, ![128, 128]⟩
abbrev S128 : Shape := ⟨1, ![128]⟩
abbrev S1x32 : Shape := ⟨2, ![1, 32]⟩
abbrev S64x128 : Shape := ⟨2, ![64, 128]⟩
abbrev S1x128 : Shape := ⟨2, ![1, 128]⟩
abbrev S4x384x384x128 : Shape := ⟨4, ![4, 384, 384, 128]⟩
abbrev S1x64x384 : Shape := ⟨3, ![1, 64, 384]⟩
abbrev S1x64x384x128 : Shape := ⟨4, ![1, 64, 384, 128]⟩
abbrev S384x128 : Shape := ⟨2, ![384, 128]⟩
abbrev S384x1 : Shape := ⟨2, ![384, 1]⟩
abbrev S384x32 : Shape := ⟨2, ![384, 32]⟩
abbrev S384x64 : Shape := ⟨2, ![384, 64]⟩
abbrev S64x384 : Shape := ⟨2, ![64, 384]⟩
abbrev S1x1x256 : Shape := ⟨3, ![1, 1, 256]⟩
abbrev S64x384x1 : Shape := ⟨3, ![64, 384, 1]⟩
abbrev S64x384x256 : Shape := ⟨3, ![64, 384, 256]⟩
abbrev S24576x256 : Shape := ⟨2, ![24576, 256]⟩
abbrev S24576x128 : Shape := ⟨2, ![24576, 128]⟩
abbrev S64x384x128 : Shape := ⟨3, ![64, 384, 128]⟩
abbrev S64x1x128 : Shape := ⟨3, ![64, 1, 128]⟩
abbrev S1x384x128 : Shape := ⟨3, ![1, 384, 128]⟩
abbrev S1x1x128 : Shape := ⟨3, ![1, 1, 128]⟩
abbrev S4x147456x128 : Shape := ⟨3, ![4, 147456, 128]⟩

abbrev nBuf : Space → Nat
  | .hbm => 19
  | .vmem => 15
  | .smem => 0
  | _ => 0

abbrev bufTy : (tb : Table) → Fin (tcTables nBuf tb) → BufTy
  | .hbm, ⟨0, _⟩ => ⟨S4x384x384, .f32⟩
  | .hbm, ⟨1, _⟩ => ⟨S256x128, .f32⟩
  | .hbm, ⟨2, _⟩ => ⟨S32, .f32⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S1x32, .f32⟩
  | .hbm, ⟨10, _⟩ => ⟨S1x32, .f32⟩
  | .hbm, ⟨11, _⟩ => ⟨S1x32, .f32⟩
  | .hbm, ⟨12, _⟩ => ⟨S1x32, .f32⟩
  | .hbm, ⟨13, _⟩ => ⟨S64x128, .f32⟩
  | .hbm, ⟨14, _⟩ => ⟨S64x128, .f32⟩
  | .hbm, ⟨15, _⟩ => ⟨S1x128, .f32⟩
  | .hbm, ⟨16, _⟩ => ⟨S1x128, .f32⟩
  | .hbm, ⟨17, _⟩ => ⟨S4x384x384x128, .f32⟩
  | .hbm, ⟨18, _⟩ => ⟨S4x147456x128, .f32⟩
  | .local _ .vmem, ⟨0, _⟩ => ⟨S1x64x384, .f32⟩
  | .local _ .vmem, ⟨1, _⟩ => ⟨S1x64x384, .f32⟩
  | .local _ .vmem, ⟨2, _⟩ => ⟨S256x128, .f32⟩
  | .local _ .vmem, ⟨3, _⟩ => ⟨S1x32, .f32⟩
  | .local _ .vmem, ⟨4, _⟩ => ⟨S1x32, .f32⟩
  | .local _ .vmem, ⟨5, _⟩ => ⟨S1x32, .f32⟩
  | .local _ .vmem, ⟨6, _⟩ => ⟨S1x32, .f32⟩
  | .local _ .vmem, ⟨7, _⟩ => ⟨S64x128, .f32⟩
  | .local _ .vmem, ⟨8, _⟩ => ⟨S64x128, .f32⟩
  | .local _ .vmem, ⟨9, _⟩ => ⟨S1x128, .f32⟩
  | .local _ .vmem, ⟨10, _⟩ => ⟨S1x128, .f32⟩
  | .local _ .vmem, ⟨11, _⟩ => ⟨S1x64x384x128, .f32⟩
  | .local _ .vmem, ⟨12, _⟩ => ⟨S1x64x384x128, .f32⟩
  | .local _ .vmem, ⟨13, _⟩ => ⟨S384x128, .f32⟩
  | .local _ .vmem, ⟨14, _⟩ => ⟨S384x128, .f32⟩
  | _, _ => ⟨S4x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨2, ![4, 6], ![false, false]⟩

def k0_off1 (i : grid0.Coords) : Fin 2 → Nat :=
  let arg1 : BitVec 32 := BitVec.ofNat 32 (i 1).val
  let c64_i32 : BitVec 32 := 64#32
  let v27 : BitVec 32 := Scalar.muli arg1 c64_i32
  let v28 : Index := Scalar.indexCast v27
  let c0_11 : Index := 0#32
  ![v28.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x64x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x64x384x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S4x384x384 : Shape := ⟨3, ![4, 384, 384]⟩
abbrev S256x128 : Shape := ⟨2, ![256, 128]⟩
abbrev S32 : Shape := ⟨1, ![32]⟩
abbrev S128x128 : Shape := ⟨2, ![128, 128]⟩
abbrev S128 : Shape := ⟨1, ![128]⟩
abbrev S384 : Shape := ⟨1, ![384]⟩
abbrev S_ : Shape := ⟨0, ![]⟩
abbrev S384x1 : Shape := ⟨2, ![384, 1]⟩
abbrev S1x32 : Shape := ⟨2, ![1, 32]⟩
abbrev S384x32 : Shape := ⟨2, ![384, 32]⟩
abbrev S384x64 : Shape := ⟨2, ![384, 64]⟩
abbrev S384x1x64 : Shape := ⟨3, ![384, 1, 64]⟩
abbrev S384x384x64 : Shape := ⟨3, ![384, 384, 64]⟩
abbrev S1x384x64 : Shape := ⟨3, ![1, 384, 64]⟩
abbrev S384x384x128 : Shape := ⟨3, ![384, 384, 128]⟩
abbrev S1x1x128 : Shape := ⟨3, ![1, 1, 128]⟩
abbrev S4x147456 : Shape := ⟨2, ![4, 147456]⟩
abbrev S4x147456x1 : Shape := ⟨3, ![4, 147456, 1]⟩
abbrev S1 : Shape := ⟨1, ![1]⟩
abbrev S1x1x1 : Shape := ⟨3, ![1, 1, 1]⟩
abbrev S4x147456x128 : Shape := ⟨3, ![4, 147456, 128]⟩
abbrev S1x147456x128 : Shape := ⟨3, ![1, 147456, 128]⟩

abbrev nBuf : Space → Nat
  | .hbm => 137
  | .vmem => 0
  | .smem => 0
  | _ => 0

abbrev hbmTy0_0 (i : Nat) : BufTy := match i % 128 with
  | 0 => ⟨S4x384x384, .f32⟩
  | 1 => ⟨S256x128, .f32⟩
  | 2 => ⟨S32, .f32⟩
  | 3 => ⟨S32, .f32⟩
  | 4 => ⟨S32, .f32⟩
  | 5 => ⟨S32, .f32⟩
  | 6 => ⟨S128x128, .f32⟩
  | 7 => ⟨S128, .f32⟩
  | 8 => ⟨S128, .f32⟩
  | 9 => ⟨S384, .f32⟩
  | 10 => ⟨S_, .f32⟩
  | 11 => ⟨S384, .f32⟩
  | 12 => ⟨S384, .f32⟩
  | 13 => ⟨S384, .f32⟩
  | 14 => ⟨S_, .f32⟩
  | 15 => ⟨S384, .f32⟩
  | 16 => ⟨S384, .f32⟩
  | 17 => ⟨S_, .f32⟩
  | 18 => ⟨S32, .f32⟩
  | 19 => ⟨S32, .f32⟩
  | 20 => ⟨S32, .f32⟩
  | 21 => ⟨S32, .f32⟩
  | 22 => ⟨S32, .i1⟩
  | 23 => ⟨S32, .f32⟩
  | 24 => ⟨S32, .f32⟩
  | 25 => ⟨S32, .f32⟩
  | 26 => ⟨S32, .f32⟩
  | 27 => ⟨S32, .f32⟩
  | 28 => ⟨S32, .f32⟩
  | 29 => ⟨S32, .f32⟩
  | 30 => ⟨S32, .f32⟩
  | 31 => ⟨S_, .f32⟩
  | 32 => ⟨S32, .f32⟩
  | 33 => ⟨S32, .f32⟩
  | 34 => ⟨S_, .f32⟩
  | 35 => ⟨S32, .f32⟩
  | 36 => ⟨S32, .f32⟩
  | 37 => ⟨S32, .f32⟩
  | 38 => ⟨S32, .f32⟩
  | 39 => ⟨S32, .i1⟩
  | 40 => ⟨S32, .f32⟩
  | 41 => ⟨S32, .f32⟩
  | 42 => ⟨S32, .f32⟩
  | 43 => ⟨S32, .f32⟩
  | 44 => ⟨S32, .f32⟩
  | 45 => ⟨S32, .f32⟩
  | 46 => ⟨S32, .f32⟩
  | 47 => ⟨S32, .f32⟩
  | 48 => ⟨S_, .f32⟩
  | 49 => ⟨S32, .f32⟩
  | 50 => ⟨S32, .f32⟩
  | 51 => ⟨S384x1, .f32⟩
  | 52 => ⟨S1x32, .f32⟩
  | 53 => ⟨S384x32, .f32⟩
  | 54 => ⟨S384x32, .f32⟩
  | 55 => ⟨S384x32, .f32⟩
  | 56 => ⟨S1x32, .f32⟩
  | 57 => ⟨S384x32, .f32⟩
  | 58 => ⟨S384x32, .f32⟩
  | 59 => ⟨S384x1, .f32⟩
  | 60 => ⟨S1x32, .f32⟩
  | 61 => ⟨S384x32, .f32⟩
  | 62 => ⟨S384x32, .f32⟩
  | 63 => ⟨S384x32, .f32⟩
  | 64 => ⟨S1x32, .f32⟩
  | 65 => ⟨S384x32, .f32⟩
  | 66 => ⟨S384x32, .f32⟩
  | 67 => ⟨S384x32, .f32⟩
  | 68 => ⟨S384x32, .f32⟩
  | 69 => ⟨S384x64, .f32⟩
  | 70 => ⟨S384x32, .f32⟩
  | 71 => ⟨S384x32, .f32⟩
  | 72 => ⟨S384x64, .f32⟩
  | 73 => ⟨S384x1x64, .f32⟩
  | 74 => ⟨S384x384x64, .f32⟩
  | 75 => ⟨S1x384x64, .f32⟩
  | 76 => ⟨S384x384x64, .f32⟩
  | 77 => ⟨S384x384x128, .f32⟩
  | 78 => ⟨S384x384x128, .f32⟩
  | 79 => ⟨S1x1x128, .f32⟩
  | 80 => ⟨S384x384x128, .f32⟩
  | 81 => ⟨S384x384x128, .f32⟩
  | 82 => ⟨S_, .f32⟩
  | 83 => ⟨S4x384x384, .f32⟩
  | 84 => ⟨S4x384x384, .f32⟩
  | 85 => ⟨S_, .f32⟩
  | 86 => ⟨S_, .f32⟩
  | 87 => ⟨S_, .f32⟩
  | 88 => ⟨S4x384x384, .f32⟩
  | 89 => ⟨S4x384x384, .f32⟩
  | 90 => ⟨S_, .f32⟩
  | 91 => ⟨S4x384x384, .f32⟩
  | 92 => ⟨S4x384x384, .f32⟩
  | 93 => ⟨S4x384x384, .i32⟩
  | 94 => ⟨S4x147456, .i32⟩
  | 95 => ⟨S_, .i32⟩
  | 96 => ⟨S4x147456, .i32⟩
  | 97 => ⟨S4x147456, .i1⟩
  | 98 => ⟨S_, .i32⟩
  | 99 => ⟨S4x147456, .i32⟩
  | 100 => ⟨S4x147456, .i32⟩
  | 101 => ⟨S4x147456, .i32⟩
  | 102 => ⟨S4x147456x1, .i32⟩
  | 103 => ⟨S1, .i32⟩
  | 104 => ⟨S_, .i32⟩
  | 105 => ⟨S4x147456x1, .i32⟩
  | 106 => ⟨S4x147456x1, .i1⟩
  | 107 => ⟨S1x1x1, .i32⟩
  | 108 => ⟨S4x147456x1, .i32⟩
  | 109 => ⟨S4x147456x1, .i1⟩
  | 110 => ⟨S4x147456x1, .i1⟩
  | 111 => ⟨S_, .i1⟩
  | 112 => ⟨S4x147456, .i1⟩
  | 113 => ⟨S4x147456x128, .f32⟩
  | 114 => ⟨S4x147456x128, .i1⟩
  | 115 => ⟨S_, .f32⟩
  | 116 => ⟨S4x147456x128, .f32⟩
  | 117 => ⟨S4x147456x128, .f32⟩
  | 118 => ⟨S1x147456x128, .f32⟩
  | 119 => ⟨S4x147456x128, .f32⟩
  | 120 => ⟨S4x147456x128, .f32⟩
  | 121 => ⟨S4x147456x128, .f32⟩
  | 122 => ⟨S_, .f32⟩
  | 123 => ⟨S4x147456, .f32⟩
  | 124 => ⟨S4x147456x1, .f32⟩
  | 125 => ⟨S_, .f32⟩
  | 126 => ⟨S4x147456x1, .f32⟩
  | 127 => ⟨S4x147456x1, .f32⟩
  | _ => ⟨S4x384x384, .f32⟩

abbrev hbmTy0_1 (i : Nat) : BufTy := match i % 128 with
  | 0 => ⟨S_, .f32⟩
  | 1 => ⟨S4x147456x1, .f32⟩
  | 2 => ⟨S4x147456x1, .f32⟩
  | 3 => ⟨S4x147456x1, .f32⟩
  | 4 => ⟨S4x147456x128, .f32⟩
  | 5 => ⟨S4x147456x128, .f32⟩
  | 6 => ⟨S1x1x128, .f32⟩
  | 7 => ⟨S4x147456x128, .f32⟩
  | 8 => ⟨S4x147456x128, .f32⟩
  | _ => ⟨S4x384x384, .f32⟩

abbrev hbmTy (i : Nat) : BufTy := match i / 128 with
  | 0 => hbmTy0_0 i
  | 1 => hbmTy0_1 i
  | _ => ⟨S4x384x384, .f32⟩

abbrev bufTy : (tb : Table) → Fin (tcTables nBuf tb) → BufTy
  | .hbm, ⟨i, _⟩ => hbmTy i
  | _, _ => ⟨S4x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_v6 : Ref sig .tc := ⟨.hbm, 30, rfl⟩
abbrev main_cst_1 : Ref sig .tc := ⟨.hbm, 31, rfl⟩
abbrev main_v7 : Ref sig .tc := ⟨.hbm, 32, rfl⟩
abbrev main_v8 : Ref sig .tc := ⟨.hbm, 33, rfl⟩
abbrev main_call1_cst : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_v9 : Ref sig .tc := ⟨.hbm, 47, rfl⟩
abbrev main_cst_2 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_cst_3 : Ref sig .tc := ⟨.hbm, 82, rfl⟩
abbrev main_v43 : Ref sig .tc := ⟨.hbm, 83, rfl⟩
abbrev main_v44 : Ref sig .tc := ⟨.hbm, 84, rfl⟩
abbrev main_cst_4 : Ref sig .tc := ⟨.hbm, 85, rfl⟩
abbrev main_cst_5 : Ref sig .tc := ⟨.hbm, 86, rfl⟩
abbrev main_call2_v0 : Ref sig .tc := ⟨.hbm, 87, rfl⟩
abbrev main_call2_v1 : Ref sig .tc := ⟨.hbm, 88, rfl⟩
abbrev main_call2_v2 : Ref sig .tc := ⟨.hbm, 89, rfl⟩
abbrev main_call2_v3 : Ref sig .tc := ⟨.hbm, 90, rfl⟩
abbrev main_call2_v4 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_call3_c : Ref sig .tc := ⟨.hbm, 95, rfl⟩
abbrev main_call3_v0 : Ref sig .tc := ⟨.hbm, 96, rfl⟩
abbrev main_call3_v1 : Ref sig .tc := ⟨.hbm, 97, rfl⟩
abbrev main_call3_c_0 : Ref sig .tc := ⟨.hbm, 98, rfl⟩
abbrev main_call3_v2 : Ref sig .tc := ⟨.hbm, 99, rfl⟩
abbrev main_call3_v3 : Ref sig .tc := ⟨.hbm, 100, rfl⟩
abbrev main_call3_v4 : Ref sig .tc := ⟨.hbm, 101, rfl⟩
abbrev main_call3_v5 : Ref sig .tc := ⟨.hbm, 102, rfl⟩
abbrev main_call3_c_1 : Ref sig .tc := ⟨.hbm, 103, rfl⟩
abbrev main_call3_c_2 : Ref sig .tc := ⟨.hbm, 104, rfl⟩
abbrev main_call3_v6 : Ref sig .tc := ⟨.hbm, 105, rfl⟩
abbrev main_call3_v7 : Ref sig .tc := ⟨.hbm, 106, rfl⟩
abbrev main_call3_v8 : Ref sig .tc := ⟨.hbm, 107, rfl⟩
abbrev main_call3_v9 : Ref sig .tc := ⟨.hbm, 108, rfl⟩
abbrev main_call3_v10 : Ref sig .tc := ⟨.hbm, 109, rfl⟩
abbrev main_call3_v11 : Ref sig .tc := ⟨.hbm, 110, rfl⟩
abbrev main_call3_c_3 : Ref sig .tc := ⟨.hbm, 111, rfl⟩
abbrev main_call3_v12 : Ref sig .tc := ⟨.hbm, 112, rfl⟩
abbrev main_call3_v13 : Ref sig .tc := ⟨.hbm, 113, rfl⟩
abbrev main_call3_v14 : Ref sig .tc := ⟨.hbm, 114, rfl⟩
abbrev main_call3_cst : Ref sig .tc := ⟨.hbm, 115, rfl⟩
abbrev main_call3_v15 : Ref sig .tc := ⟨.hbm, 116, rfl⟩
abbrev main_v48 : Ref sig .tc := ⟨.hbm, 117, rfl⟩
abbrev main_v49 : Ref sig .tc := ⟨.hbm, 118, rfl⟩
abbrev main_v50 : Ref sig .tc := ⟨.hbm, 119, rfl⟩
abbrev main_v51 : Ref sig .tc := ⟨.hbm, 120, rfl⟩
abbrev main_v52 : Ref sig .tc := ⟨.hbm, 121, rfl⟩
abbrev main_cst_6 : Ref sig .tc := ⟨.hbm, 122, rfl⟩
abbrev main_v53 : Ref sig .tc := ⟨.hbm, 123, rfl⟩
abbrev main_v54 : Ref sig .tc := ⟨.hbm, 124, rfl⟩
abbrev main_cst_7 : Ref sig .tc := ⟨.hbm, 125, rfl⟩
abbrev main_v55 : Ref sig .tc := ⟨.hbm, 126, rfl⟩
abbrev main_v56 : Ref sig .tc := ⟨.hbm, 127, rfl⟩
abbrev main_cst_8 : Ref sig .tc := ⟨.hbm, 128, rfl⟩
abbrev main_v57 : Ref sig .tc := ⟨.hbm, 129, rfl⟩
abbrev main_v58 : Ref sig .tc := ⟨.hbm, 130, rfl⟩
abbrev main_v59 : Ref sig .tc := ⟨.hbm, 131, rfl⟩
abbrev main_v60 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_v64 : Ref sig .tc := ⟨.hbm, 136, rfl⟩

abbrev nD : Nat := 1
abbrev τ : Topo := Topo.v7x

variable {F : FTy → Type} [FloatOps F]
-- ==== Proof.Scalar.lean ====
/- Scalar facts over the extended reals: the grey level of a pixel and the row it selects. -/
module

public import Idealize.ShloMosaic.PureOps.Ideal
public import Idealize.ShloMosaic.PureOps.Ideal.Laws

@[expose] public section

noncomputable section

namespace Cert.Pixel

open Idealize.ShloMosaic

/-- An extended real between 0 and 255 is a real number. -/
theorem exists_real (u : EReal) (h0 : 0 ≤ u) (h1 : u ≤ ((255 : ℝ) : EReal)) : ∃ r : ℝ, u = (r : EReal) ∧ 0 ≤ r ∧ r ≤ 255 := by
  induction u with
  | bot => simp at h0
  | top => exact absurd h1 (by
      have : ((255 : ℝ) : EReal) < ⊤ := EReal.coe_lt_top _
      exact not_le.mpr this)
  | coe r =>
    refine ⟨r, rfl, by exact_mod_cast h0, ?_⟩
    exact_mod_cast h1

/-- The integer part of an extended real between 0 and 255 is one of the 256 levels: rounding down gives that level, and
    so does the conversion to a 32-bit integer, which rounds toward zero. -/
theorem exists_level (u : EReal) (h0 : 0 ≤ u) (h1 : u ≤ ((255 : ℝ) : EReal)) :
    ∃ n : Fin 256, Ideal.liftRound Int.floor u = ((n.val : ℝ) : EReal) ∧ Ideal.fptosi 32 u = BitVec.ofNat 32 n.val := by
  obtain ⟨r, rfl, hr0, hr1⟩ := exists_real u h0 h1
  have hf0 : 0 ≤ ⌊r⌋ := Int.floor_nonneg.mpr hr0
  have hf1 : ⌊r⌋ ≤ 255 := by
    have : ⌊r⌋ ≤ ⌊(255 : ℝ)⌋ := Int.floor_le_floor hr1
    simpa using this
  obtain ⟨k, hk⟩ := Int.eq_ofNat_of_zero_le hf0
  refine ⟨⟨k, by omega⟩, ?_, ?_⟩
  · show ((⌊r⌋ : ℝ) : EReal) = _
    rw [hk]; simp
  · unfold Ideal.fptosi
    rw [Ideal.toIntClamped_coe, if_pos hr0, hk]
    have : max (-(((2 : Nat) ^ (32 - 1) : Nat) : Int)) (min ((((2 : Nat) ^ (32 - 1) : Nat) : Int) - 1) (k : Int)) = (k : Int) := by
      norm_num; omega
    simp only [Nat.cast_pow, Nat.cast_ofNat] at this ⊢
    rw [this]
    simp

/-- A row number below 256 read back from its 32-bit word is itself, as a real. -/
theorem word_real (v : Fin 256) : (((BitVec.ofNat 32 v.val).toInt : ℝ) : EReal) = ((v.val : ℝ) : EReal) := by
  have : (BitVec.ofNat 32 v.val).toInt = (v.val : Int) := by
    rw [BitVec.toInt_eq_toNat_of_lt] <;> rw [BitVec.toNat_ofNat] <;> (have := v.isLt; omega)
  rw [this]; simp

/-- Multiplying the one-hot row of level `n` into a table's column reads the table at `n`. -/
theorem onehot_sum (u : EReal) (n : Fin 256) (hn : u = ((n.val : ℝ) : EReal)) (E : Fin 256 → EReal) :
    ∑ v : Fin 256, (if u = (((BitVec.ofNat 32 v.val).toInt : ℝ) : EReal) then 1 else 0) * E v = E n := by
  rw [Finset.sum_eq_single n]
  · rw [if_pos (by rw [hn, word_real]), one_mul]
  · intro v _ hv
    rw [if_neg, zero_mul]
    rw [hn, word_real]
    intro h
    apply hv
    have h' : (n.val : ℝ) = (v.val : ℝ) := by exact_mod_cast h
    exact Fin.ext (by exact_mod_cast h'.symm)
  · intro h; exact absurd (Finset.mem_univ _) h

/-- The float word of 255 denotes 255. -/
theorem c255 : Ideal.ofBits .f32 0x437F0000#32 = ((255 : ℝ) : EReal) := by
  simp [Ideal.ofBits, Ideal.ieee, -EReal.coe_mul]; norm_num

end Cert.Pixel

end
-- ==== Proof.Spec.lean ====
/- The mathematics of the embedding, over the extended reals and free of both programs: the two positional
   projections, the looked-up table row, the root-mean-square normalisation of their sum. -/
module

public import proofs.«01_k».proof.Proof.Scalar
public import Idealize.ShloMosaic.Lib.Pointwise

@[expose] public section

noncomputable section

namespace Cert.Pixel

open Idealize.ShloMosaic

/-- The pixel value times 255, clipped to `[0, 255]`. -/
def scaled (x : EReal) : EReal := min ((255 : ℝ) : EReal) (max 0 (x * ((255 : ℝ) : EReal)))

/-- The clipped value is at least zero. -/
theorem scaled_nonneg (x : EReal) : 0 ≤ scaled x :=
  le_min (by exact_mod_cast (by norm_num : (0 : ℝ) ≤ 255)) (le_max_left _ _)

/-- The clipped value is at most 255. -/
theorem scaled_le (x : EReal) : scaled x ≤ ((255 : ℝ) : EReal) := min_le_left _ _

/-- The table row a pixel selects. -/
def level (x : EReal) : Fin 256 := (exists_level (scaled x) (scaled_nonneg x) (scaled_le x)).choose

/-- Rounding the clipped value down gives the selected row's number. -/
theorem floor_scaled (x : EReal) : Ideal.liftRound Int.floor (scaled x) = (((level x).val : ℝ) : EReal) :=
  (exists_level (scaled x) (scaled_nonneg x) (scaled_le x)).choose_spec.1

/-- Converting the clipped value to a 32-bit integer gives the selected row's number. -/
theorem fptosi_scaled (x : EReal) : Ideal.fptosi 32 (scaled x) = BitVec.ofNat 32 (level x).val :=
  (exists_level (scaled x) (scaled_nonneg x) (scaled_le x)).choose_spec.2

/-- The frequency of a parameter: ten times its softplus. -/
def freq (f : EReal) : EReal :=
  (max f 0 + Ideal.log1p (Ideal.exp (-FloatOps.absf (F := Ideal) (φ := .f32) f))) * Ideal.ofBits .f32 0x41200000#32

/-- The angle at row or column `n` of 384, for component `k`. -/
def angle (f p : Fin 32 → EReal) (n : Fin 384) (k : Fin 32) : EReal :=
  Ideal.div (FloatOps.sitofp (F := Ideal) .f32 (BitVec.ofNat 32 n.val)) (Ideal.ofBits .f32 0x43C00000#32) * freq (f k) + p k

/-- The projection of the 32 sines and 32 cosines at `n` onto one output channel, whose 64 weights are `W`. -/
def proj (f p : Fin 32 → EReal) (W : Fin 64 → EReal) (n : Fin 384) : EReal :=
  ∑ k : Fin 32, Ideal.sin (angle f p n k) * W ⟨k.val, by omega⟩
    + ∑ k : Fin 32, Ideal.cos (angle f p n k) * W ⟨32 + k.val, by omega⟩

/-- A row of 128 channels divided by the root of its mean square plus 1e-6, times the weights `g`. -/
def norm (e g : Fin 128 → EReal) (d : Fin 128) : EReal :=
  e d * Ideal.rsqrt (Ideal.div (∑ k, e k * e k) (Ideal.ofBits .f32 0x43000000#32) + Ideal.ofBits .f32 0x358637BD#32) * g d

/-- The positional embedding at row `h`, column `w`, channel `d`. -/
def pos (fh fw ph pw : FVec Ideal ⟨1, ![32]⟩ .f32) (W : FVec Ideal ⟨2, ![128, 128]⟩ .f32) (pb : FVec Ideal ⟨1, ![128]⟩ .f32)
    (h w : Fin 384) (d : Fin 128) : EReal :=
  (proj (fun k => fh (ix1 k)) (fun k => ph (ix1 k)) (fun k => W (ix2 ⟨k.val, by omega⟩ d)) h
    + proj (fun k => fw (ix1 k)) (fun k => pw (ix1 k)) (fun k => W (ix2 ⟨64 + k.val, by omega⟩ d)) w) + pb (ix1 d)

/-- The output at image `b`, row `h`, column `w`, channel `d`. -/
def out (x : FVec Ideal ⟨3, ![4, 384, 384]⟩ .f32) (E : FVec Ideal ⟨2, ![256, 128]⟩ .f32) (fh fw ph pw : FVec Ideal ⟨1, ![32]⟩ .f32)
    (W : FVec Ideal ⟨2, ![128, 128]⟩ .f32) (pb g : FVec Ideal ⟨1, ![128]⟩ .f32) (b : Fin 4) (h w : Fin 384) (d : Fin 128) : EReal :=
  norm (fun k => E (ix2 (level (x (ix3 b h w))) k) + pos fh fw ph pw W pb h w k) (fun k => g (ix1 k)) d

end Cert.Pixel

end
-- ==== Proof.Gather.lean ====
/- The reference's gather read at an index: whole rows of the table. -/
module

public import proofs.«01_k».proof.Proof.Gen.ReferenceIdeal
public import Idealize.ShloMosaic.Lib.Pointwise

@[expose] public section

set_option maxRecDepth 16384

noncomputable section

namespace Cert.ReferenceIdeal.Val

open Idealize.ShloMosaic Idealize.ShloMosaic.TcCoe Idealize.SL.Sem
open Cert.ReferenceIdeal Cert.ReferenceIdeal.Gen

/-- The gather of whole rows: where the index array holds row number `n`, the result's row is the table's row `n`. -/
theorem gather_read (x1 : FVec Ideal S256x128 .f32) (idx : IVec S4x147456x1 32) (b : Fin 4) (p : Fin 147456) (d : Fin 128)
    (n : Fin 256) (hn : idx (ix3 b p (0 : Fin 1)) = BitVec.ofNat 32 n.val) :
    Host.gather gather_S256x128_S4x147456x1_S4x147456x128_2_0_n_n_0_2_1128 x1 idx (ix3 b p d) = x1 (ix2 n d) := by
  unfold Host.gather
  refine congrArg x1 (funext fun a => Fin.ext ?_)
  show GatherDims.start _ (ix3 b p d) idx a + GatherDims.batchCoord _ (ix3 b p d) a + GatherDims.offCoord _ (ix3 b p d) a = _
  have h01 : a = (0 : Fin 2) ∨ a = (1 : Fin 2) := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S256x128_S4x147456x1_S4x147456x128_2_0_n_n_0_2_1128.startIndexMap from List.mem_singleton.mpr rfl)]
    have hsi : gather_S256x128_S4x147456x1_S4x147456x128_2_0_n_n_0_2_1128.siIdx (ix3 b p d)
        ⟨List.idxOf (0 : Fin 2) gather_S256x128_S4x147456x1_S4x147456x128_2_0_n_n_0_2_1128.startIndexMap,
          List.idxOf_lt_length_iff.2 (List.mem_singleton.mpr rfl)⟩ = ix3 b p (0 : Fin 1) := by
      funext c
      refine Fin.ext ?_
      match c with
      | ⟨0, _⟩ => rfl
      | ⟨1, _⟩ => rfl
      | ⟨2, _⟩ => rfl
    refine (congrArg (fun w : BitVec 32 => min w.toInt.toNat 255) ((congrArg idx hsi).trans hn)).trans ?_
    show _ = n.val
    clear hn hsi
    revert n
    decide
  · rw [GatherDims.batchCoord_eq_zero _ _ _ List.not_mem_nil]
    unfold GatherDims.start
    rw [dif_neg (show (1 : Fin 2) ∉ gather_S256x128_S4x147456x1_S4x147456x128_2_0_n_n_0_2_1128.startIndexMap from fun h => absurd (List.mem_singleton.mp h) (by decide))]
    simp only [Nat.zero_add, Nat.add_zero]
    rfl

end Cert.ReferenceIdeal.Val

end
-- ==== Proof.Reference.lean ====
/- The reference's result read at an index: it is the embedding of Spec.lean. -/
module

public import proofs.«01_k».proof.Proof.Gen.ReferenceIdeal.Read
public import proofs.«01_k».proof.Proof.Spec
public import proofs.«01_k».proof.Proof.Gather
public import Idealize.ShloMosaic.Lib.Pointwise

@[expose] public section

set_option maxRecDepth 16384

noncomputable section

namespace Cert.ReferenceIdeal.Val

open Idealize.ShloMosaic Idealize.ShloMosaic.TcCoe Idealize.SL.Sem
open Cert.ReferenceIdeal Cert.ReferenceIdeal.Gen Cert.ReferenceIdeal.Read

/-- The reference's positional embedding is the specification's. -/
theorem pos_read (x2 x3 x4 x5 : FVec Ideal S32 .f32) (x6 : FVec Ideal S128x128 .f32) (x7 : FVec Ideal S128 .f32) (h w : Fin 384) (d : Fin 128) :
    val_main_v42 (F := Ideal) x2 x3 x4 x5 x6 x7 (ix3 h w d) = Pixel.pos x2 x3 x4 x5 x6 x7 h w d := by
  pointwise [val_main_v42, val_main_v41, val_main_v40, val_main_v39, val_main_v38, val_main_v37, val_main_v36, val_main_v35,
    val_main_v34, val_main_v33, val_main_v32, val_main_v31, val_main_v30, val_main_v29, val_main_v28, val_main_v27,
    val_main_v26, val_main_v25, val_main_v24, val_main_v23, val_main_v22, val_main_v21, val_main_v20, val_main_v19,
    val_main_v18, val_main_v17, val_main_v16, val_main_v15, val_main_v14, val_main_v13, val_main_v12, val_main_v11,
    val_main_v10, val_main_cst_2, val_main_v9, val_main_call1_v11, val_main_call1_v10, val_main_call1_v9,
    val_main_call1_v8, val_main_call1_v7, val_main_call1_v6, val_main_call1_v5, val_main_call1_v4, val_main_call1_v3,
    val_main_call1_v2, val_main_call1_v1, val_main_call1_v0, val_main_call1_cst, val_main_v8, val_main_v7, val_main_cst_1,
    val_main_v6, val_main_call0_v11, val_main_call0_v10, val_main_call0_v9, val_main_call0_v8, val_main_call0_v7,
    val_main_call0_v6, val_main_call0_v5, val_main_call0_v4, val_main_call0_v3, val_main_call0_v2, val_main_call0_v1,
    val_main_call0_v0, val_main_call0_cst, val_main_v5, val_main_v4, val_main_cst_0, val_main_v3, val_main_v2, val_main_v1,
    val_main_cst, val_main_v0, Value.fn_main_v30, Value.fn_main_v33, Value.fn_main_v38, sumSplitAll, ne_eq,
    not_true_eq_false, if_false]
  rfl

/-- The row number the reference looks up, as a 32-bit integer: the pixel's level. -/
theorem index_read (x0 : FVec Ideal S4x384x384 .f32) (b : Fin 4) (p : Fin 147456) :
    val_main_call3_v5 (F := Ideal) x0 (ix3 b p (0 : Fin 1))
      = BitVec.ofNat 32 (Pixel.level (x0 (ix3 b ⟨p.val / 384, by omega⟩ ⟨p.val % 384, by omega⟩))).val := by
  have key : val_main_v47 (F := Ideal) x0 (ix2 b p)
      = BitVec.ofNat 32 (Pixel.level (x0 (ix3 b ⟨p.val / 384, by omega⟩ ⟨p.val % 384, by omega⟩))).val := by
    rw [← Pixel.fptosi_scaled]
    pointwise [val_main_v47, val_main_v46, val_main_v45, val_main_call2_v4, val_main_call2_v3, val_main_call2_v2,
      val_main_call2_v1, val_main_call2_v0, val_main_cst_5, val_main_cst_4, val_main_v44, val_main_v43, val_main_cst_3, id_eq, Pixel.scaled, Pixel.c255]
    rfl
  pointwise [val_main_call3_v5, val_main_call3_v4, val_main_call3_v3, val_main_call3_v2, val_main_call3_c_0,
    val_main_call3_v1, val_main_call3_v0, val_main_call3_c]
  rw [key]
  generalize Pixel.level _ = n
  revert n
  decide

/-- The reference's `take`: the table's row at the pixel's level. -/
theorem take_read (x0 : FVec Ideal S4x384x384 .f32) (x1 : FVec Ideal S256x128 .f32) (b : Fin 4) (p : Fin 147456) (d : Fin 128) :
    val_main_v48 (F := Ideal) x0 x1 (ix3 b p d)
      = x1 (ix2 (Pixel.level (x0 (ix3 b ⟨p.val / 384, by omega⟩ ⟨p.val % 384, by omega⟩))) d) := by
  have hi := index_read x0 b p
  generalize Pixel.level _ = n at hi ⊢
  pointwise [val_main_v48, val_main_call3_v15, val_main_call3_cst, val_main_call3_v14, val_main_call3_v12, val_main_call3_c_3,
    val_main_call3_v11, val_main_call3_v10, val_main_call3_v9, val_main_call3_v8, val_main_call3_v7, val_main_call3_v6,
    val_main_call3_c_2, val_main_call3_c_1]
  simp only [Finset.univ_unique, Finset.fold_singleton, Fin.default_eq_zero, Fin.isValue]
  rw [hi]
  have hm : IntOp.andi
      (IntOp.andi (IntOp.cmpi CmpIPredicate.sge (BitVec.ofNat 32 n.val) 0#32)
        (IntOp.cmpi CmpIPredicate.sle (BitVec.ofNat 32 n.val) 255#32)) 1#1 = 1#1 := by
    clear hi
    revert n
    decide
  rw [hm]
  exact gather_read x1 _ b p d n hi

/-- The reference's result at image `b`, pixel `p = 384 h + w`, channel `d`. -/
theorem result_read (x0 : FVec Ideal S4x384x384 .f32) (x1 : FVec Ideal S256x128 .f32) (x2 x3 x4 x5 : FVec Ideal S32 .f32)
    (x6 : FVec Ideal S128x128 .f32) (x7 x8 : FVec Ideal S128 .f32) (b : Fin 4) (p : Fin 147456) (d : Fin 128) :
    val_main_v64 (F := Ideal) x0 x1 x2 x3 x4 x5 x6 x7 x8 (ix3 b p d)
      = Pixel.out x0 x1 x2 x3 x4 x5 x6 x7 x8 b ⟨p.val / 384, by omega⟩ ⟨p.val % 384, by omega⟩ d := by
  pointwise [val_main_v64, val_main_v63, val_main_v62, val_main_v61, val_main_v60, val_main_v59, val_main_v58, val_main_v57,
    val_main_cst_8, val_main_v56, val_main_v55, val_main_cst_7, val_main_v54, val_main_v53, val_main_cst_6, val_main_v52,
    val_main_v51, val_main_v50, val_main_v49]
  simp only [take_read, pos_read]
  rfl

end Cert.ReferenceIdeal.Val

end
-- ==== Proof.Carried.lean ====
/- What one grid point of the kernel leaves: the two carried projections, written once, and the output block. -/
module

public import proofs.«01_k».proof.Proof.Gen.KernelIdeal.Frame
public import proofs.«01_k».proof.Proof.Spec
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.Claim

@[expose] public section

set_option maxRecDepth 16384

noncomputable section

namespace Cert.KernelIdeal.Val

open Idealize.ShloMosaic Idealize.ShloMosaic.TcCoe Idealize.SL.Sem
open Cert.KernelIdeal Cert.KernelIdeal.Gen

variable (m : (ℓ : Loc nD τ sig) → Buf (Elt Ideal) ℓ)

/-- Point `t` of the grid is image `t / 6`, row block `t % 6`; the parameters' windows never move. -/
theorem idx : ∀ t : Fin cfg0.N, win0_0.index t = ![t.val / 6, t.val % 6, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0]
    ∧ win0_10.index t = ![t.val / 6, t.val % 6, 0, 0] :=
  (by decide +kernel : ∀ t : Fin grid0.N, _)

/-- The row offset at which point `t` reads the carried row projection. -/
theorem off : ∀ t : Fin cfg0.N, k0_off1 (grid0.coords t) = ![64 * (t.val % 6), 0] :=
  (by decide +kernel : ∀ t : Fin grid0.N, _)

/-- The row projection with the bias: what the first point stores in the first scratch array. -/
def PH (c : Dev nD) (y : S384x128.Idx) : EReal :=
  Pixel.proj (fun k => m ((c : Thread nD τ).loc main_arg2) (ix1 k)) (fun k => m ((c : Thread nD τ).loc main_arg4) (ix1 k))
    (fun k => m ((c : Thread nD τ).loc main_arg6) (ix2 ⟨k.val, by omega⟩ (y 1))) (y 0) + (show EReal from m ((c : Thread nD τ).loc main_arg7) (ix1 (y 1)))

/-- The column projection: what the first point stores in the second scratch array. -/
def PW (c : Dev nD) (y : S384x128.Idx) : EReal :=
  Pixel.proj (fun k => m ((c : Thread nD τ).loc main_arg3) (ix1 k)) (fun k => m ((c : Thread nD τ).loc main_arg5) (ix1 k))
    (fun k => m ((c : Thread nD τ).loc main_arg6) (ix2 ⟨64 + k.val, by omega⟩ (y 1))) (y 0)

/-- The sum of the two halves' products is the projection, over blocks given abstractly, with the bias row added. -/
theorem pay5_read (f p : FVec Ideal S1x32 .f32) (w : FVec Ideal S64x128 .f32) (pb : FVec Ideal S1x128 .f32) (h : Fin 384) (d : Fin 128) :
    (k0_pay5 (F := Ideal) (k0_pay2 f p) w pb : S384x128.Idx → EReal) (ix2 h d)
      = Pixel.proj (fun k => f (ix2 0 k)) (fun k => p (ix2 0 k)) (fun k => w (ix2 k d)) h + (show EReal from pb (ix2 0 d)) := by
  pointwise [k0_pay5, k0_pay2, zero_sub]
  rfl

/-- The same for the column half, which adds no bias. -/
theorem pay6_read (f p : FVec Ideal S1x32 .f32) (w : FVec Ideal S64x128 .f32) (h : Fin 384) (d : Fin 128) :
    (k0_pay6 (F := Ideal) (k0_pay3 f) (k0_pay4 p) w : S384x128.Idx → EReal) (ix2 h d)
      = Pixel.proj (fun k => f (ix2 0 k)) (fun k => p (ix2 0 k)) (fun k => w (ix2 k d)) h := by
  pointwise [k0_pay6, k0_pay4, k0_pay3, zero_sub]
  rfl

/-- On entry to the pallas call, `main_v0` holds the row frequencies. -/
theorem entry2 (c : Dev nD) (k : Fin 32) : V m c main_v0 (ix2 0 k) = m ((c : Thread nD τ).loc main_arg2) (ix1 k) := by
  change StableHlo.after hostOps0 (fun b => m (c, b)) (Proc.tc.devRef main_v0) (ix2 0 k) = _
  after_results
  pointwise
/-- On entry to the pallas call, `main_v1` holds the column frequencies. -/
theorem entry3 (c : Dev nD) (k : Fin 32) : V m c main_v1 (ix2 0 k) = m ((c : Thread nD τ).loc main_arg3) (ix1 k) := by
  change StableHlo.after hostOps0 (fun b => m (c, b)) (Proc.tc.devRef main_v1) (ix2 0 k) = _
  after_results
  pointwise
/-- On entry to the pallas call, `main_v2` holds the row phases. -/
theorem entry4 (c : Dev nD) (k : Fin 32) : V m c main_v2 (ix2 0 k) = m ((c : Thread nD τ).loc main_arg4) (ix1 k) := by
  change StableHlo.after hostOps0 (fun b => m (c, b)) (Proc.tc.devRef main_v2) (ix2 0 k) = _
  after_results
  pointwise
/-- On entry to the pallas call, `main_v3` holds the column phases. -/
theorem entry5 (c : Dev nD) (k : Fin 32) : V m c main_v3 (ix2 0 k) = m ((c : Thread nD τ).loc main_arg5) (ix1 k) := by
  change StableHlo.after hostOps0 (fun b => m (c, b)) (Proc.tc.devRef main_v3) (ix2 0 k) = _
  after_results
  pointwise
/-- On entry to the pallas call, `main_v4` holds the upper half of the weights. -/
theorem entry6 (c : Dev nD) (k : Fin 64) (d : Fin 128) : V m c main_v4 (ix2 k d) = m ((c : Thread nD τ).loc main_arg6) (ix2 ⟨k.val, by omega⟩ d) := by
  change StableHlo.after hostOps0 (fun b => m (c, b)) (Proc.tc.devRef main_v4) (ix2 k d) = _
  after_results
  pointwise
/-- On entry to the pallas call, `main_v5` holds the lower half of the weights. -/
theorem entry7 (c : Dev nD) (k : Fin 64) (d : Fin 128) : V m c main_v5 (ix2 k d) = m ((c : Thread nD τ).loc main_arg6) (ix2 ⟨64 + k.val, by omega⟩ d) := by
  change StableHlo.after hostOps0 (fun b => m (c, b)) (Proc.tc.devRef main_v5) (ix2 k d) = _
  after_results
  pointwise
/-- On entry to the pallas call, `main_v6` holds the bias. -/
theorem entry8 (c : Dev nD) (d : Fin 128) : V m c main_v6 (ix2 0 d) = m ((c : Thread nD τ).loc main_arg7) (ix1 d) := by
  change StableHlo.after hostOps0 (fun b => m (c, b)) (Proc.tc.devRef main_v6) (ix2 0 d) = _
  after_results
  pointwise
/-- On entry to the pallas call, `main_v7` holds the norm gain. -/
theorem entry9 (c : Dev nD) (d : Fin 128) : V m c main_v7 (ix2 0 d) = m ((c : Thread nD τ).loc main_arg8) (ix1 d) := by
  change StableHlo.after hostOps0 (fun b => m (c, b)) (Proc.tc.devRef main_v7) (ix2 0 d) = _
  after_results
  pointwise

/-- Window 2 is the row frequency parameters. -/
theorem blk2 (c : Dev nD) (t : Fin cfg0.N) (k : Fin 32) : iblk m c 2 t (ix2 0 k) = m ((c : Thread nD τ).loc main_arg2) (ix1 k) := by
  refine Eq.trans (b := V m c main_v0 (ix2 0 k)) ?_ (entry2 m c k)
  blk_ext [iblk, idx t]
/-- Window 3 is the column frequency parameters. -/
theorem blk3 (c : Dev nD) (t : Fin cfg0.N) (k : Fin 32) : iblk m c 3 t (ix2 0 k) = m ((c : Thread nD τ).loc main_arg3) (ix1 k) := by
  refine Eq.trans (b := V m c main_v1 (ix2 0 k)) ?_ (entry3 m c k)
  blk_ext [iblk, idx t]
/-- Window 4 is the row phases. -/
theorem blk4 (c : Dev nD) (t : Fin cfg0.N) (k : Fin 32) : iblk m c 4 t (ix2 0 k) = m ((c : Thread nD τ).loc main_arg4) (ix1 k) := by
  refine Eq.trans (b := V m c main_v2 (ix2 0 k)) ?_ (entry4 m c k)
  blk_ext [iblk, idx t]
/-- Window 5 is the column phases. -/
theorem blk5 (c : Dev nD) (t : Fin cfg0.N) (k : Fin 32) : iblk m c 5 t (ix2 0 k) = m ((c : Thread nD τ).loc main_arg5) (ix1 k) := by
  refine Eq.trans (b := V m c main_v3 (ix2 0 k)) ?_ (entry5 m c k)
  blk_ext [iblk, idx t]
/-- Window 6 is the upper half of the projection weights. -/
theorem blk6 (c : Dev nD) (t : Fin cfg0.N) (k : Fin 64) (d : Fin 128) :
    iblk m c 6 t (ix2 k d) = m ((c : Thread nD τ).loc main_arg6) (ix2 ⟨k.val, by omega⟩ d) := by
  refine Eq.trans (b := V m c main_v4 (ix2 k d)) ?_ (entry6 m c k d)
  blk_ext [iblk, idx t]
/-- Window 7 is the lower half of the projection weights. -/
theorem blk7 (c : Dev nD) (t : Fin cfg0.N) (k : Fin 64) (d : Fin 128) :
    iblk m c 7 t (ix2 k d) = m ((c : Thread nD τ).loc main_arg6) (ix2 ⟨64 + k.val, by omega⟩ d) := by
  refine Eq.trans (b := V m c main_v5 (ix2 k d)) ?_ (entry7 m c k d)
  blk_ext [iblk, idx t]
/-- Window 8 is the projection bias. -/
theorem blk8 (c : Dev nD) (t : Fin cfg0.N) (d : Fin 128) : iblk m c 8 t (ix2 0 d) = m ((c : Thread nD τ).loc main_arg7) (ix1 d) := by
  refine Eq.trans (b := V m c main_v6 (ix2 0 d)) ?_ (entry8 m c d)
  blk_ext [iblk, idx t]
/-- Window 9 is the norm gain. -/
theorem blk9 (c : Dev nD) (t : Fin cfg0.N) (d : Fin 128) : iblk m c 9 t (ix2 0 d) = m ((c : Thread nD τ).loc main_arg8) (ix1 d) := by
  refine Eq.trans (b := V m c main_v7 (ix2 0 d)) ?_ (entry9 m c d)
  blk_ext [iblk, idx t]
/-- Window 1 is the embedding table. -/
theorem blk1 (c : Dev nD) (t : Fin cfg0.N) (v : Fin 256) (d : Fin 128) :
    iblk m c 1 t (ix2 v d) = m ((c : Thread nD τ).loc main_arg1) (ix2 v d) := by
  blk_point [iblk, V, idx t]
/-- Window 0 at point `t` is rows `64 * (t % 6)` onward of image `t / 6`. -/
theorem blk0 (c : Dev nD) (t : Fin cfg0.N) (r : Fin 64) (w : Fin 384) :
    iblk m c 0 t (ix3 0 r w) = m ((c : Thread nD τ).loc main_arg0)
      (ix3 ⟨t.val / 6, by have := t.isLt; have h : cfg0.N = 24 := rfl; omega⟩ ⟨64 * (t.val % 6) + r.val, by omega⟩ w) := by
  blk_point [iblk, V, idx t]

/-- The value stored in the first scratch array is the row projection. -/
theorem pay_PH (c : Dev nD) (t : Fin cfg0.N) (y : S384x128.Idx) :
    k0_pay5 (k0_pay2 (iblk m c 2 t) (iblk m c 4 t)) (iblk m c 6 t) (iblk m c 8 t) y = PH m c y := by
  idx_vars y
  refine (pay5_read _ _ _ _ _ _).trans ?_
  simp only [blk2, blk4, blk6, blk8]
  rfl

/-- The value stored in the second scratch array is the column projection. -/
theorem pay_PW (c : Dev nD) (t : Fin cfg0.N) (y : S384x128.Idx) :
    k0_pay6 (k0_pay3 (iblk m c 3 t)) (k0_pay4 (iblk m c 5 t)) (iblk m c 7 t) y = PW m c y := by
  idx_vars y
  refine (pay6_read _ _ _ _ _).trans ?_
  simp only [blk3, blk5, blk7]
  rfl

/-- After every point the first scratch array holds the row projection. -/
theorem held_PH (c : Dev nD) (t : Fin cfg0.N) : (outsAt0 m c t.val t.isLt).2.1 = PH m c :=
  Pipeline.eq_of_write_hold (fun n h => (outsAt0 m c n h).2.1) 24 (fun _ => PH m c)
    (fun t h0 => by
      funext y
      rw [outsAt0_A m c t h0]
      frame_out
      exact pay_PH m c t y)
    (fun t h0 => by
      rw [outsAt0_B m c t h0]
      rfl) t

/-- After every point the second scratch array holds the column projection. -/
theorem held_PW (c : Dev nD) (t : Fin cfg0.N) : (outsAt0 m c t.val t.isLt).2.2 = PW m c :=
  Pipeline.eq_of_write_hold (fun n h => (outsAt0 m c n h).2.2) 24 (fun _ => PW m c)
    (fun t h0 => by
      funext y
      rw [outsAt0_A m c t h0]
      frame_out
      exact pay_PW m c t y)
    (fun t h0 => by
      rw [outsAt0_B m c t h0]
      rfl) t

end Cert.KernelIdeal.Val

end
-- ==== Proof.Block.lean ====
/- The output block of one grid point, and the whole result array of the pallas call. -/
module

public import proofs.«01_k».proof.Proof.Carried

@[expose] public section

set_option maxRecDepth 16384

noncomputable section

namespace Cert.KernelIdeal.Val

open Idealize.ShloMosaic Idealize.ShloMosaic.TcCoe Idealize.SL.Sem
open Cert.KernelIdeal Cert.KernelIdeal.Gen

variable (m : (ℓ : Loc nD τ sig) → Buf (Elt Ideal) ℓ)

/-- The block a point stores, over its blocks and the two projections, in one form for the first point and the others. -/
def BLK (c : Dev nD) (t : Fin cfg0.N) : FVec Ideal S1x64x384x128 .f32 :=
  k0_pay1
    (k0_pay7 (iblk m c 0 t) (iblk m c 1 t)
      (View.ld (show Vec Ideal S384x128 .f32 from PH m c) (Rect.unit (s := S384x128) (k0_off1 (grid0.coords t)) ![64, 128] (k0_off1_inb _))) (PW m c))
    (k0_pay8 (iblk m c 0 t) (iblk m c 1 t)
      (View.ld (show Vec Ideal S384x128 .f32 from PH m c) (Rect.unit (s := S384x128) (k0_off1 (grid0.coords t)) ![64, 128] (k0_off1_inb _))) (PW m c))
    (iblk m c 9 t)

/-- Every point's output block is `BLK`: the first point reads what it has just stored, the others what was carried. -/
theorem out_eq (c : Dev nD) (t : Fin cfg0.N) (y : S1x64x384x128.Idx) :
    (outsAt0 m c t.val t.isLt).1 y = BLK m c t y := by
  by_cases h0 : t.val % 24 = 0
  · rw [outsAt0_A m c t h0]
    frame_out
    rw [show k0_pay5 (k0_pay2 (iblk m c 2 t) (iblk m c 4 t)) (iblk m c 6 t) (iblk m c 8 t) = PH m c from funext (pay_PH m c t),
      show k0_pay6 (k0_pay3 (iblk m c 3 t)) (k0_pay4 (iblk m c 5 t)) (iblk m c 7 t) = PW m c from funext (pay_PW m c t)]
    rfl
  · have hp : t.val - 1 < cfg0.N := Nat.lt_of_le_of_lt (Nat.sub_le _ _) t.isLt
    rw [outsAt0_B m c t h0]
    frame_out
    rw [read_unread_whole, read_unread_whole]
    rw [held_PH m c ⟨t.val - 1, hp⟩, held_PW m c ⟨t.val - 1, hp⟩]
    rfl

/-- The table row the one-hot product selects, plus the carried row and column values. -/
theorem pay7_read (x : FVec Ideal S1x64x384 .f32) (E : FVec Ideal S256x128 .f32) (H : FVec Ideal S64x128 .f32)
    (W : FVec Ideal S384x128 .f32) (r : Fin 64) (w : Fin 384) (d : Fin 128) :
    (k0_pay7 (F := Ideal) x E H W : S64x384x128.Idx → EReal) (ix3 r w d)
      = (show EReal from E (ix2 (Pixel.level (x (ix3 0 r w))) d)) + (show EReal from H (ix2 r d)) + (show EReal from W (ix2 w d)) := by
  pointwise [k0_pay7]
  rw [Pixel.c255]
  exact congrArg₂ (· + ·) (congrArg₂ (· + ·) (Pixel.onehot_sum _ _ (Pixel.floor_scaled _) fun v => E (ix2 v d)) rfl) rfl

/-- The squares that enter the mean. -/
theorem pay8_read (x : FVec Ideal S1x64x384 .f32) (E : FVec Ideal S256x128 .f32) (H : FVec Ideal S64x128 .f32)
    (W : FVec Ideal S384x128 .f32) (i : S64x384x128.Idx) :
    (k0_pay8 (F := Ideal) x E H W : S64x384x128.Idx → EReal) i
      = (k0_pay7 (F := Ideal) x E H W : S64x384x128.Idx → EReal) i * (k0_pay7 (F := Ideal) x E H W : S64x384x128.Idx → EReal) i := rfl

/-- The stored block is the row normalised by its root mean square. -/
theorem pay1_read (e e2 : FVec Ideal S64x384x128 .f32) (g : FVec Ideal S1x128 .f32) (r : Fin 64) (w : Fin 384) (d : Fin 128)
    (h : ∀ i, (e2 : S64x384x128.Idx → EReal) i = (e : S64x384x128.Idx → EReal) i * (e : S64x384x128.Idx → EReal) i) :
    (k0_pay1 (F := Ideal) e e2 g : S1x64x384x128.Idx → EReal) (ix4 0 r w d)
      = Pixel.norm (fun k => e (ix3 r w k)) (fun k => g (ix2 0 k)) d := by
  pointwise [k0_pay1, h]
  rfl

/-- The result array of the pallas call at image, row, column, channel. -/
def RES (c : Dev nD) (i : S4x384x384x128.Idx) : EReal :=
  Pixel.out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (i 0) (i 1) (i 2) (i 3)

/-- Reading 64 rows of the row projection at point `t`'s offset. -/
theorem ld_PH (c : Dev nD) (t : Fin cfg0.N) (r : Fin 64) (d : Fin 128) :
    (View.ld (show Vec Ideal S384x128 .f32 from PH m c) (Rect.unit (s := S384x128) (k0_off1 (grid0.coords t)) ![64, 128] (k0_off1_inb _)) : S64x128.Idx → EReal)
      (ix2 r d) = PH m c (ix2 ⟨64 * (t.val % 6) + r.val, by omega⟩ d) := by
  have := off t
  refine congrArg (PH m c) ?_
  funext a
  apply Fin.ext
  have h : (((Rect.unit (s := S384x128) (k0_off1 (grid0.coords t)) ![64, 128] (k0_off1_inb _)).idx (ix2 r d) a : Fin _) : ℕ)
      = k0_off1 (grid0.coords t) a + 1 * (ix2 r d a : ℕ) := rfl
  refine h.trans ?_
  rw [this]
  have h01 : ∀ a : Fin 2, a = 0 ∨ a = 1 := by decide
  rcases h01 a with rfl | rfl
  · exact congrArg (64 * (t.val % 6) + ·) (one_mul r.val)
  · exact (Nat.zero_add _).trans (one_mul d.val)

/-- The kernel adds the bias to the row projection, the reference to the sum of both projections. -/
theorem reassoc (e h b w : EReal) : e + (h + b) + w = e + (h + w + b) := by
  rw [add_assoc, add_right_comm]

/-- The block of point `t` holds the specified values of rows `64 * (t % 6)` onward of image `t / 6`. -/
theorem point (c : Dev nD) (t : Fin cfg0.N) (r : Fin 64) (w : Fin 384) (d : Fin 128) :
    (BLK m c t : S1x64x384x128.Idx → EReal) (ix4 0 r w d)
      = RES m c (ix4 ⟨t.val / 6, by have := t.isLt; have h : cfg0.N = 24 := rfl; omega⟩ ⟨64 * (t.val % 6) + r.val, by omega⟩ w d) := by
  refine (pay1_read _ _ _ r w d (pay8_read _ _ _ _)).trans ?_
  unfold RES Pixel.out
  refine congrArg₂ (fun e g => Pixel.norm e g d) ?_ (funext fun k => blk9 m c t k)
  funext k
  refine (pay7_read _ _ _ _ r w k).trans ?_
  rw [ld_PH m c t r k, blk0 m c t r w, blk1]
  exact reassoc _ _ _ _

/-- The same at any index of the block, the array index given as the block's placement. -/
theorem point_emb (c : Dev nD) (t : Fin cfg0.N) (y : S1x64x384x128.Idx) :
    BLK m c t y = RES m c ((win0_10.blk t).view.emb y) := by
  obtain ⟨r, w, d, rfl⟩ : ∃ (r : Fin 64) (w : Fin 384) (d : Fin 128), y = ix4 0 r w d := by
    refine ⟨y 1, y 2, y 3, ?_⟩
    funext a
    match a with
    | 0 => exact Fin.ext (by have := (y 0).isLt; change (y 0).val = 0; change (y 0).val < 1 at this; omega)
    | 1 => rfl
    | 2 => rfl
    | 3 => rfl
  refine (point m c t r w d).trans (congrArg (RES m c) ?_)
  blk_ext [idx t]

/-- After the run the pallas call's result array is the specification. -/
theorem final (c : Dev nD) : (dats m 0 c).arrAt 10 (cfgs 0).N = RES m c := by
  refine (dats m 0 c).arrAt_eq_of_covers 10 _ (by decide +kernel) fun t _ y => ?_
  blk_simp
  rw [after0_10]
  refine (out_eq m c t _).trans ?_
  exact point_emb m c t y

end Cert.KernelIdeal.Val

end
-- ==== Proof.Tail.lean ====
/- The kernel's result buffer: the pallas call's array with rows and columns flattened, and the run that ends with it. -/
module

public import proofs.«01_k».proof.Proof.Block

@[expose] public section

set_option maxRecDepth 16384

noncomputable section

namespace Cert.KernelIdeal.Val

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- Flattening the two pixel axes: entry `p` is row `p / 384`, column `p % 384`. -/
theorem flat_read (x : FVec Ideal S4x384x384x128 .f32) (b : Fin 4) (p : Fin 147456) (d : Fin 128) :
    (shapeCast S4x147456x128 x shapeCasts_S4x384x384x128_S4x147456x128 : S4x147456x128.Idx → EReal) (ix3 b p d)
      = x (ix4 b ⟨p.val / 384, by omega⟩ ⟨p.val % 384, by omega⟩ d) := by
  pointwise

/-- What the result buffer holds after the host's last line. -/
theorem tail (c : Dev nD) (b : Fin 4) (p : Fin 147456) (d : Fin 128) :
    Pipeline.afterTail₀ cfgs (dats m) 0 (V0 m) [hostOps1] c main_v9 (ix3 b p d)
      = RES m c (ix4 b ⟨p.val / 384, by omega⟩ ⟨p.val % 384, by omega⟩ d) := by
  unfold Pipeline.afterTail₀
  change StableHlo.after hostOps1 _ (Proc.tc.devRef main_v9) (ix3 b p d) = _
  after_results
  refine (flat_read _ b p d).trans ?_
  exact congrFun ((Pipeline.withArrays_arr (cfgs 0).spec launch0.win.arr_inj c (V0 m c) (fun w => (dats m 0 c).arrAt w (cfgs 0).N) 10).trans (final m c)) _

/-- The idealized kernel's run: the result buffer ends as the tail leaves it, the arguments unchanged. -/
theorem kernel_run : θ_run defs (onTc (τ := τ) (main (F := Ideal))) ⟨m, fun _ => 0, ρ⟩ (fun r => ∀ c : Dev nD,
      r.2.mem ((c.tc : Thread nD τ).loc main_v9) = Pipeline.afterTail₀ cfgs (dats m) 0 (V0 m) [hostOps1] c main_v9
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h.2 c).2 main_v9 (Pipeline.mem_restRefs_of main_v9 (by decide) (by decide)), h.1 c⟩)
    (θ_run_and (unchanged m ρ) (run_main m ρ))

end Cert.KernelIdeal.Val

end
-- ==== Proof.lean ====
/-
  The proof of `Cert.Claim`: the three programs' runs, and the equality of the idealized kernel's and the reference's result.

  Proof/Scalar.lean, Proof/Spec.lean   the embedding's mathematics over the extended reals, free of both programs
  Proof/Gather.lean, Proof/Reference.lean   the reference's result read at an index
  Proof/Carried.lean, Proof/Block.lean, Proof/Tail.lean   the kernel's result read at an index
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Reference
public import proofs.«01_k».proof.Proof.Tail
public import Idealize.ShloMosaic.Adequacy
public import Idealize.ShloMosaic.Init
public import Idealize.ShloMosaic.Lib.Claim

@[expose] public section

noncomputable section

namespace Cert.Proof

open Idealize.ShloMosaic Idealize.SL.Sem Cert.Kernel

/-- The reference runs, its arguments unchanged; it declares no semaphore. -/
theorem frame_reference : Cert.quiescent_ReferenceIdeal (hReferenceIdeal := Cert.ReferenceIdeal.Gen.facts) := by
  intro m g _
  exact θ_run_mono (Cert.ReferenceIdeal.Value.run m g)
    fun r h => ⟨fun c => (h c).2, sem_eq_zero_of_no_sems (by decide) r.2⟩

/-- Both programs' results at image `b`, pixel `p`, channel `d` are `Pixel.out` there: they are equal. -/
theorem results (m : (ℓ : Loc Cert.KernelIdeal.nD Cert.KernelIdeal.τ Cert.KernelIdeal.sig) → Buf (Elt Ideal) ℓ) (c : Dev Cert.KernelIdeal.nD) :
    Cert.ReferenceIdeal.Read.val_main_v64 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
    = Pipeline.afterTail₀ Cert.KernelIdeal.cfgs (Cert.KernelIdeal.Gen.dats m) 0 (Cert.KernelIdeal.Gen.V0 m) [Cert.KernelIdeal.Gen.hostOps1] c Cert.KernelIdeal.main_v9 := by
  funext i
  obtain ⟨b, p, d, rfl⟩ : ∃ (b : Fin 4) (p : Fin 147456) (d : Fin 128), i = ix3 b p d := by
    refine ⟨i 0, i 1, i 2, ?_⟩
    funext a
    match a with
    | 0 => rfl
    | 1 => rfl
    | 2 => rfl
  refine (Cert.ReferenceIdeal.Val.result_read _ _ _ _ _ _ _ _ _ b p d).trans ?_
  exact (Cert.KernelIdeal.Val.tail m c b p d).symm

/-- The idealized kernel and the reference end with equal results. -/
theorem algebraic : Cert.algebraic_KernelIdeal_ReferenceIdeal (hKernelIdeal := Cert.KernelIdeal.Gen.facts)
    (hReferenceIdeal := Cert.ReferenceIdeal.Gen.facts) := by
  pair_intro
  · exact Cert.KernelIdeal.Val.kernel_run m g
  · refine θ_run_mono (Cert.ReferenceIdeal.Value.run m' g') fun r h c => ⟨(h c).1.trans ?_, (h c).2⟩
    obtain ⟨a0, a1, a2, a3, a4, a5, a6, a7, a8⟩ := hagree c
    refine (Cert.ReferenceIdeal.Read.val_main_v64_eq m' c).trans ?_
    rw [a0, a1, a2, a3, a4, a5, a6, a7, a8]
    exact results m c

/-- All five claims: the three runs, the idealization, and the equality of the results. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, frame_reference, trivial, algebraic⟩

end Cert.Proof

end
